-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_index_in_range [hPre_index_in_range : Cert.Pre_index_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_index_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_index_in_range [hPre_index_in_range : Cert.Pre_index_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_index_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_index_in_range [hKernelIdeal : Cert.KernelIdeal.Facts] [hPre_index_in_range : Cert.Pre_index_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_index_in_range m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_index_in_range [hReferenceIdeal : Cert.ReferenceIdeal.Facts] [hPre_index_in_range : Cert.Pre_index_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_index_in_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal_pre_index_in_range [hKernelIdeal : Cert.KernelIdeal.Facts] [hReferenceIdeal : Cert.ReferenceIdeal.Facts] [hPre_index_in_range : Cert.Pre_index_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_index_in_range m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v17) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_index_in_range : Cert.Pre_index_in_range.Facts),
    quiescent_Kernel (hKernel := hKernel)
    ∧ quiescent_KernelIdeal (hKernelIdeal := hKernelIdeal)
    ∧ quiescent_KernelIdeal_pre_index_in_range (hKernelIdeal := hKernelIdeal) (hPre_index_in_range := hPre_index_in_range)
    ∧ quiescent_ReferenceIdeal (hReferenceIdeal := hReferenceIdeal)
    ∧ quiescent_ReferenceIdeal_pre_index_in_range (hReferenceIdeal := hReferenceIdeal) (hPre_index_in_range := hPre_index_in_range)
    ∧ preserves_Kernel_KernelIdeal
    ∧ algebraic_KernelIdeal_ReferenceIdeal_pre_index_in_range (hKernelIdeal := hKernelIdeal) (hReferenceIdeal := hReferenceIdeal) (hPre_index_in_range := hPre_index_in_range)
-- ==== Pre_index_in_range.lean ====
abbrev S4096x2048 : Shape := ⟨2, ![4096, 2048]⟩
abbrev S4096x8 : Shape := ⟨2, ![4096, 8]⟩
abbrev S2048x2048 : Shape := ⟨2, ![2048, 2048]⟩
abbrev S2048 : Shape := ⟨1, ![2048]⟩
abbrev S_ : Shape := ⟨0, ![]⟩

class Facts : Prop where

variable [Facts]

def fn {F : FTy → Type} [FloatOps F] (main_arg0 : FVec F S4096x2048 .f32) (main_arg1 : FVec F S4096x8 .f32) (main_arg2 : FVec F S2048x2048 .f32) (main_arg3 : FVec F S2048 .f32) (main_arg4 : IVec S_ 32) : IVec S_ 1 :=
  let main_c : IVec S_ 32 := constantI S_ 32 0#32
  let main_v0 : IVec S_ 1 := cmpi .sge main_arg4 main_c
  let main_c_0 : IVec S_ 32 := constantI S_ 32 8#32
  let main_v1 : IVec S_ 1 := cmpi .slt main_arg4 main_c_0
  let main_v2 : IVec S_ 1 := andi main_v0 main_v1
  main_v2
-- ==== Kernel.lean ====
abbrev S4096x2048 : Shape := ⟨2, ![4096, 2048]⟩
abbrev S4096x8 : Shape := ⟨2, ![4096, 8]⟩
abbrev S2048x2048 : Shape := ⟨2, ![2048, 2048]⟩
abbrev S2048 : Shape := ⟨1, ![2048]⟩
abbrev S_ : Shape := ⟨0, ![]⟩
abbrev S1 : Shape := ⟨1, ![1]⟩
abbrev S512x8 : Shape := ⟨2, ![512, 8]⟩
abbrev S512x2048 : Shape := ⟨2, ![512, 2048]⟩
abbrev S1x8 : Shape := ⟨2, ![1, 8]⟩
abbrev S512 : Shape := ⟨1, ![512]⟩
abbrev S512x1 : Shape := ⟨2, ![512, 1]⟩
abbrev S1x2048 : Shape := ⟨2, ![1, 2048]⟩

abbrev nBuf : Space → Nat
  | .hbm => 6
  | .vmem => 8
  | .smem => 1
  | _ => 0

abbrev bufTy : (tb : Table) → Fin (tcTables nBuf tb) → BufTy
  | .hbm, ⟨0, _⟩ => ⟨S4096x2048, .f32⟩
  | .hbm, ⟨1, _⟩ => ⟨S4096x8, .f32⟩
  | .hbm, ⟨2, _⟩ => ⟨S2048x2048, .f32⟩
  | .hbm, ⟨3, _⟩ => ⟨S2048, .f32⟩
  | .hbm, ⟨4, _⟩ => ⟨S_, .i32⟩
  | .hbm, ⟨5, _⟩ => ⟨S4096x2048, .f32⟩
  | .local _ .vmem, ⟨0, _⟩ => ⟨S512x8, .f32⟩
  | .local _ .vmem, ⟨1, _⟩ => ⟨S512x8, .f32⟩
  | .local _ .vmem, ⟨2, _⟩ => ⟨S512x2048, .f32⟩
  | .local _ .vmem, ⟨3, _⟩ => ⟨S512x2048, .f32⟩
  | .local _ .vmem, ⟨4, _⟩ => ⟨S2048x2048, .f32⟩
  | .local _ .vmem, ⟨5, _⟩ => ⟨S2048, .f32⟩
  | .local _ .vmem, ⟨6, _⟩ => ⟨S512x2048, .f32⟩
  | .local _ .vmem, ⟨7, _⟩ => ⟨S512x2048, .f32⟩
  | .local _ .smem, ⟨0, _⟩ => ⟨S1, .i32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v1 : Ref sig .tc := ⟨.hbm, 5, rfl⟩
abbrev main_v0 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![8], ![false]⟩

abbrev pre0 : Pipeline.Prefetch sig := ⟨1, ![main_v0.idx], fun | 0 => main_v0.names | ⟨_ + 1, h⟩ => absurd h (Nat.not_lt.2 (Nat.le_add_left _ _)), fun | 0 => rfl | ⟨_ + 1, h⟩ => absurd h (Nat.not_lt.2 (Nat.le_add_left _ _))⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x8 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S2048x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== ReferenceIdeal.lean ====
abbrev S4096x2048 : Shape := ⟨2, ![4096, 2048]⟩
abbrev S4096x8 : Shape := ⟨2, ![4096, 8]⟩
abbrev S2048x2048 : Shape := ⟨2, ![2048, 2048]⟩
abbrev S2048 : Shape := ⟨1, ![2048]⟩
abbrev S_ : Shape := ⟨0, ![]⟩
abbrev S4096x1 : Shape := ⟨2, ![4096, 1]⟩
abbrev S4096 : Shape := ⟨1, ![4096]⟩
abbrev S1x2048 : Shape := ⟨2, ![1, 2048]⟩

abbrev nBuf : Space → Nat
  | .hbm => 33
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S4096x8, .f32⟩
  | .hbm, ⟨2, _⟩ => ⟨S2048x2048, .f32⟩
  | .hbm, ⟨3, _⟩ => ⟨S2048, .f32⟩
  | .hbm, ⟨4, _⟩ => ⟨S_, .i32⟩
  | .hbm, ⟨5, _⟩ => ⟨S_, .i32⟩
  | .hbm, ⟨6, _⟩ => ⟨S_, .i32⟩
  | .hbm, ⟨7, _⟩ => ⟨S_, .i1⟩
  | .hbm, ⟨8, _⟩ => ⟨S_, .i32⟩
  | .hbm, ⟨9, _⟩ => ⟨S_, .i32⟩
  | .hbm, ⟨10, _⟩ => ⟨S_, .i32⟩
  | .hbm, ⟨11, _⟩ => ⟨S_, .i32⟩
  | .hbm, ⟨12, _⟩ => ⟨S_, .i32⟩
  | .hbm, ⟨13, _⟩ => ⟨S_, .i32⟩
  | .hbm, ⟨14, _⟩ => ⟨S_, .i1⟩
  | .hbm, ⟨15, _⟩ => ⟨S_, .i32⟩
  | .hbm, ⟨16, _⟩ => ⟨S_, .i32⟩
  | .hbm, ⟨17, _⟩ => ⟨S_, .i32⟩
  | .hbm, ⟨18, _⟩ => ⟨S4096x1, .f32⟩
  | .hbm, ⟨19, _⟩ => ⟨S4096, .f32⟩
  | .hbm, ⟨20, _⟩ => ⟨S_, .f32⟩
  | .hbm, ⟨21, _⟩ => ⟨S4096, .f32⟩
  | .hbm, ⟨22, _⟩ => ⟨S4096, .i1⟩
  | .hbm, ⟨23, _⟩ => ⟨S2048x2048, .f32⟩
  | .hbm, ⟨24, _⟩ => ⟨S4096x2048, .f32⟩
  | .hbm, ⟨25, _⟩ => ⟨S1x2048, .f32⟩
  | .hbm, ⟨26, _⟩ => ⟨S4096x2048, .f32⟩
  | .hbm, ⟨27, _⟩ => ⟨S4096x2048, .f32⟩
  | .hbm, ⟨28, _⟩ => ⟨S4096x1, .i1⟩
  | .hbm, ⟨29, _⟩ => ⟨S_, .f32⟩
  | .hbm, ⟨30, _⟩ => ⟨S4096x2048, .f32⟩
  | .hbm, ⟨31, _⟩ => ⟨S4096x2048, .i1⟩
  | .hbm, ⟨32, _⟩ => ⟨S4096x2048, .f32⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_c_0 : Ref sig .tc := ⟨.hbm, 6, rfl⟩
abbrev main_v0 : Ref sig .tc := ⟨.hbm, 7, rfl⟩
abbrev main_c_1 : Ref sig .tc := ⟨.hbm, 8, rfl⟩
abbrev main_c_2 : Ref sig .tc := ⟨.hbm, 9, rfl⟩
abbrev main_v1 : Ref sig .tc := ⟨.hbm, 10, rfl⟩
abbrev main_c_3 : Ref sig .tc := ⟨.hbm, 11, rfl⟩
abbrev main_v2 : Ref sig .tc := ⟨.hbm, 12, rfl⟩
abbrev main_c_4 : Ref sig .tc := ⟨.hbm, 13, rfl⟩
abbrev main_v3 : Ref sig .tc := ⟨.hbm, 14, rfl⟩
abbrev main_c_5 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_cst : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_cst_6 : Ref sig .tc := ⟨.hbm, 29, rfl⟩
abbrev main_v16 : Ref sig .tc := ⟨.hbm, 30, rfl⟩
abbrev main_call0_v0 : Ref sig .tc := ⟨.hbm, 31, rfl⟩
abbrev main_v17 : Ref sig .tc := ⟨.hbm, 32, rfl⟩

abbrev nD : Nat := 1
abbrev τ : Topo := Topo.v7x

variable {F : FTy → Type} [FloatOps F]
-- ==== Proof.Encode.lean ====
/-
  The function both programs compute, and the two facts about the modality index it rests on: what the
  precondition says of the index word, and that summing a row of the mask against the one-hot vector of the
  index picks the mask's element at the index.
-/
module

public import proofs.«01_k».proof.Pre_index_in_range
public import Idealize.ShloMosaic.Lib.Pointwise
public import Idealize.ShloMosaic.Lib.WordCmp

@[expose] public section

set_option maxRecDepth 16384

noncomputable section

namespace Cert.Encode

open Idealize.ShloMosaic

/-- The threshold the mask is compared with: the f32 pattern of one half, read as an extended real. -/
abbrev half : EReal := Ideal.ofBits FTy.f32 0x3F000000#32

/-- The encoder's output at row `r`, column `s`, for modality `k`: the linear layer `x Wᵀ + b` where the
    row's mask at `k` exceeds one half, and zero elsewhere. -/
def encode (x : FVec Ideal ⟨2, ![4096, 2048]⟩ .f32) (mask : FVec Ideal ⟨2, ![4096, 8]⟩ .f32)
    (wt : FVec Ideal ⟨2, ![2048, 2048]⟩ .f32) (b : FVec Ideal ⟨1, ![2048]⟩ .f32) (k : Fin 8)
    (r : Fin 4096) (s : Fin 2048) : EReal :=
  if half < mask (ix2 r k) then ∑ q : Fin 2048, x (ix2 r q) * wt (ix2 s q) + b (ix1 s) else 0

/-- The one-hot element of the index word `k` at position `x`: one where `x = k`, zero elsewhere. -/
theorem onehot_elt (k x : Fin 8) :
    (FloatOps.sitofp (F := Ideal) FTy.f32 (BitVec.setWidth 32 (IntOp.cmpi CmpIPredicate.eq (BitVec.ofNat 32 x.val) (BitVec.ofNat 32 k.val))) : EReal)
      = if x = k then 1 else 0 := by
  have hw : BitVec.setWidth 32 (IntOp.cmpi CmpIPredicate.eq (BitVec.ofNat 32 x.val) (BitVec.ofNat 32 k.val))
      = if x = k then 1#32 else 0#32 := by
    revert k x
    decide
  rw [hw]
  by_cases h : x = k
  · rw [if_pos h, if_pos h]
    show ((((1#32 : BitVec 32).toInt : ℝ)) : EReal) = 1
    norm_num
  · rw [if_neg h, if_neg h]
    show ((((0#32 : BitVec 32).toInt : ℝ)) : EReal) = 0
    norm_num

/-- A row summed against the one-hot vector of `k` is the row's element at `k`. No finiteness is asked: zero times
    any extended real is zero. -/
theorem onehot_sum (f : Fin 8 → EReal) (k : Fin 8) :
    ∑ x : Fin 8, f x * (FloatOps.sitofp (F := Ideal) FTy.f32
        (BitVec.setWidth 32 (IntOp.cmpi CmpIPredicate.eq (BitVec.ofNat 32 x.val) (BitVec.ofNat 32 k.val))) : EReal) = f k := by
  simp only [onehot_elt, mul_ite, mul_one, mul_zero, Finset.sum_ite_eq', Finset.mem_univ, if_true]

/-- The precondition says the index word is the word of some number below eight. -/
theorem index_of_pre [Cert.Pre_index_in_range.Facts] (x : FVec Ideal ⟨2, ![4096, 2048]⟩ .f32)
    (mask : FVec Ideal ⟨2, ![4096, 8]⟩ .f32) (wt : FVec Ideal ⟨2, ![2048, 2048]⟩ .f32) (b : FVec Ideal ⟨1, ![2048]⟩ .f32)
    (i : IVec ⟨0, ![]⟩ 32) (h : Cert.Pre_index_in_range.fn (F := Ideal) x mask wt b i = fun _ => 1#1) :
    ∃ k : Fin 8, i = fun _ => BitVec.ofNat 32 k.val := by
  have h0 := congrFun h ix0
  change (BitVec.ofBool ((0#32).sle (i ix0))) &&& (BitVec.ofBool ((i ix0).slt 8#32)) = 1#1 at h0
  have hge : (0#32).sle (i ix0) = true := by
    revert h0; cases (0#32).sle (i ix0) <;> cases (i ix0).slt 8#32 <;> decide
  have hlt : (i ix0).slt 8#32 = true := by
    revert h0; cases (0#32).sle (i ix0) <;> cases (i ix0).slt 8#32 <;> decide
  have h8 : (i ix0).toNat < 8 := by
    simp only [BitVec.sle, BitVec.slt, decide_eq_true_eq] at hge hlt
    rw [show (8#32).toInt = 8 from rfl] at hlt
    rw [show (0#32).toInt = 0 from rfl] at hge
    rw [BitVec.toInt_eq_toNat_cond] at hge hlt
    split at hge <;> omega
  refine ⟨⟨(i ix0).toNat, h8⟩, funext fun j => ?_⟩
  rw [show j = ix0 from funext fun a => a.elim0]
  simp

end Cert.Encode

end
-- ==== Proof.Block.lean ====
/-
  What one grid point computes: the body's stored block, element by element, as the encoder's formula on the
  point's blocks of the mask, the input, the weights and the bias.
-/
module

public import proofs.«01_k».proof.Proof.Encode
public import proofs.«01_k».proof.Proof.Gen.KernelIdeal.Frame
public import Idealize.ShloMosaic.Lib.Pointwise

@[expose] public section

set_option maxRecDepth 16384

noncomputable section

namespace Cert.KernelIdeal.Encoder

open Cert.KernelIdeal Cert.KernelIdeal.Gen Cert.Encode
open Idealize.ShloMosaic

/-- The stored block at row `r`, column `s`, for the index word of `k`: the row's mask is summed against the one-hot
    vector of `k`, which leaves the mask at `k`; where it exceeds one half the element is the linear layer's, elsewhere
    zero. -/
theorem pay_apply (k : Fin 8) (mk : Vec Ideal S512x8 .f32) (x : Vec Ideal S512x2048 .f32)
    (wt : Vec Ideal S2048x2048 .f32) (b : Vec Ideal S2048 .f32) (r : Fin 512) (s : Fin 2048) :
    k0_pay1 (F := Ideal) (BitVec.ofNat 32 k.val) mk x wt b (ix2 r s)
      = if half < mk (ix2 r k) then ∑ q : Fin 2048, x (ix2 r q) * wt (ix2 s q) + b (ix1 s) else 0 := by
  pointwise [k0_pay1]
  rw [onehot_sum (fun i => mk (ix2 r i)) k]

end Cert.KernelIdeal.Encoder

end
-- ==== Proof.Blocks.lean ====
/-
  What the result array holds after the run: the grid's blocks of 512 rows tile it, and the block each point writes
  is the encoder's formula on the argument arrays' rows.
-/
module

public import proofs.«01_k».proof.Proof.Block
public import Idealize.ShloMosaic.Lib.Pipeline.ValueKit
public import Idealize.ShloMosaic.Lib.Pipeline.Covers

@[expose] public section

set_option maxRecDepth 16384

noncomputable section

namespace Cert.KernelIdeal.Encoder

open Cert.KernelIdeal Cert.KernelIdeal.Gen Cert.Encode
open Idealize.ShloMosaic Idealize.ShloMosaic.TcCoe Idealize.SL.Sem

section AnyFloat

variable {F : FTy → Type} [FloatOps F]
variable (m : (ℓ : Loc nD τ sig) → Buf (Elt F) ℓ)

/-- The grid's blocks cover the result array: its row block `β` is the one that point `β` writes. -/
theorem covers_out (hO : Ok m) : ((cfgM m hO).win 4).Covers :=
  ((cfgM m hO).win 4).covers_of_indexMap_surj rfl (fun a => by revert a; exact (by decide : ∀ a : Fin 2, 0 < S512x2048.size a)) fun β => by
    have h0 : (β (0 : Fin 2)).val < 8 := lt_of_lt_of_eq (β (0 : Fin 2)).isLt (by decide : (4096 + 512 - 1) / 512 = 8)
    have h1 : (β (1 : Fin 2)).val < 1 := lt_of_lt_of_eq (β (1 : Fin 2)).isLt (by decide : (2048 + 2048 - 1) / 2048 = 1)
    have hr : (BitVec.ofNat 32 (β (0 : Fin 2)).val).toNat = (β (0 : Fin 2)).val := by
      rw [BitVec.toNat_ofNat]; omega
    refine ⟨fun a => ⟨(β (0 : Fin 2)).val, ?_⟩, fun a => ?_⟩
    · obtain rfl : a = (0 : Fin 1) := Subsingleton.elim (α := Fin 1) _ _
      exact h0
    · revert a
      refine Fin.forall_fin_two.mpr ⟨hr, ?_⟩
      show (0 : ℕ) = (β (1 : Fin 2)).val
      omega

/-- A grid point's one coordinate is below eight. -/
theorem coord_lt (t : Fin grid0.N) : ((grid0.coords t) (0 : Fin 1)).val < 8 := ((grid0.coords t) (0 : Fin 1)).isLt

/-- The row of the whole arrays that row `r` of point `t`'s block is. -/
def row (t : Fin grid0.N) (r : Fin 512) : Fin 4096 :=
  ⟨((grid0.coords t) (0 : Fin 1)).val * 512 + r.val, by have := coord_lt t; omega⟩

/-- The row block index of point `t`, a 32-bit word, is its coordinate. -/
theorem word_coord (t : Fin grid0.N) :
    (BitVec.ofNat 32 ((grid0.coords t) (0 : Fin 1)).val).toNat = ((grid0.coords t) (0 : Fin 1)).val := by
  have := coord_lt t
  rw [BitVec.toNat_ofNat]; omega

/-- What a point writes is the body's stored block, of the table's one word and the point's four input blocks. -/
theorem out_eq (c : Dev nD) (i : grid0.Coords) (a2 : Memref sig .tc .vmem S512x8 .f32) (h2 : a2.IsWhole)
    (a3 : Memref sig .tc .vmem S512x2048 .f32) (h3 : a3.IsWhole) (a4 : Memref sig .tc .vmem S2048x2048 .f32) (h4 : a4.IsWhole)
    (a5 : Memref sig .tc .vmem S2048 .f32) (h5 : a5.IsWhole) (a6 : Memref sig .tc .vmem S512x2048 .f32) (h6 : a6.IsWhole)
    (x0 : Vec F S512x8 .f32) (x1 : Vec F S512x2048 .f32) (x2 : Vec F S2048x2048 .f32) (x3 : Vec F S2048 .f32)
    (xt : TbBuf0 (F := F) c tbM0_0) (w : Elt F .i32) (hw : ∀ j, (xt : Vec F S1 .i32) j = w) :
    out0_A_4 c i a2 h2 a3 h3 a4 h4 a5 h5 a6 h6 x0 x1 x2 x3 xt = k0_pay1 w x0 x1 x2 x3 := by
  frame_out
  congr 1
  exact hw _

/-- Point `t`'s block of the mask: its rows of the argument. -/
theorem mask_block (hO : Ok m) (c : Dev nD) (t : Fin grid0.N) (r : Fin 512) (k : Fin 8) :
    (iblk m hO c 0 t : Vec F S512x8 .f32) (ix2 r k) = (m ((c : Thread nD τ).loc main_arg1) : Vec F S4096x8 .f32) (ix2 (row t r) k) := by
  unfold iblk
  show (V m c main_arg1 : Vec F S4096x8 .f32) _ = _
  rw [V_main_arg1]
  congr 1
  funext a
  revert a
  refine Fin.forall_fin_two.mpr ⟨?_, ?_⟩ <;> apply Fin.ext <;> refine (Pipeline.Window.rect_emb_val _ _ _ _).trans ?_
  · show (BitVec.ofNat 32 ((grid0.coords t) (0 : Fin 1)).val).toNat * 512 + r.val = _
    rw [word_coord]; rfl
  · show 0 * 8 + k.val = _
    rw [Nat.zero_mul, Nat.zero_add]; rfl

/-- Point `t`'s block of the input: its rows of the argument. -/
theorem x_block (hO : Ok m) (c : Dev nD) (t : Fin grid0.N) (r : Fin 512) (q : Fin 2048) :
    (iblk m hO c 1 t : Vec F S512x2048 .f32) (ix2 r q) = (m ((c : Thread nD τ).loc main_arg0) : Vec F S4096x2048 .f32) (ix2 (row t r) q) := by
  unfold iblk
  show (V m c main_arg0 : Vec F S4096x2048 .f32) _ = _
  rw [V_main_arg0]
  congr 1
  funext a
  revert a
  refine Fin.forall_fin_two.mpr ⟨?_, ?_⟩ <;> apply Fin.ext <;> refine (Pipeline.Window.rect_emb_val _ _ _ _).trans ?_
  · show (BitVec.ofNat 32 ((grid0.coords t) (0 : Fin 1)).val).toNat * 512 + r.val = _
    rw [word_coord]; rfl
  · show 0 * 2048 + q.val = _
    rw [Nat.zero_mul, Nat.zero_add]; rfl

/-- Every point's block of the weights is the whole argument. -/
theorem wt_block (hO : Ok m) (c : Dev nD) (t : Fin grid0.N) (s q : Fin 2048) :
    (iblk m hO c 2 t : Vec F S2048x2048 .f32) (ix2 s q) = (m ((c : Thread nD τ).loc main_arg2) : Vec F S2048x2048 .f32) (ix2 s q) := by
  unfold iblk
  show (V m c main_arg2 : Vec F S2048x2048 .f32) _ = _
  rw [V_main_arg2]
  congr 1
  funext a
  revert a
  refine Fin.forall_fin_two.mpr ⟨?_, ?_⟩ <;> apply Fin.ext <;> refine (Pipeline.Window.rect_emb_val _ _ _ _).trans ?_
  · show 0 * 2048 + s.val = _
    rw [Nat.zero_mul, Nat.zero_add]; rfl
  · show 0 * 2048 + q.val = _
    rw [Nat.zero_mul, Nat.zero_add]; rfl

/-- Every point's block of the bias is the whole argument. -/
theorem bias_block (hO : Ok m) (c : Dev nD) (t : Fin grid0.N) (s : Fin 2048) :
    (iblk m hO c 3 t : Vec F S2048 .f32) (ix1 s) = (m ((c : Thread nD τ).loc main_arg3) : Vec F S2048 .f32) (ix1 s) := by
  unfold iblk
  show (V m c main_arg3 : Vec F S2048 .f32) _ = _
  rw [V_main_arg3]
  congr 1
  funext a
  obtain rfl : a = (0 : Fin 1) := Subsingleton.elim (α := Fin 1) _ _
  apply Fin.ext
  refine (Pipeline.Window.rect_emb_val _ _ _ _).trans ?_
  show 0 * 2048 + s.val = _
  rw [Nat.zero_mul, Nat.zero_add]; rfl

/-- The element `y` of point `t`'s block of the result is the array's element in the block's row and the same column. -/
theorem out_emb (hO : Ok m) (t : Fin grid0.N) (y : S512x2048.Idx) :
    ((((cfgM m hO).win 4).blk t).view.emb y : S4096x2048.Idx) = ix2 (row t (y 0)) (y 1) := by
  funext a
  revert a
  refine Fin.forall_fin_two.mpr ⟨?_, ?_⟩ <;> apply Fin.ext <;> refine (Pipeline.Window.rect_emb_val _ _ _ _).trans ?_
  · show (BitVec.ofNat 32 ((grid0.coords t) (0 : Fin 1)).val).toNat * 512 + (y 0).val = _
    rw [word_coord]; rfl
  · show 0 * 2048 + (y 1).val = _
    rw [Nat.zero_mul, Nat.zero_add]; rfl

/-- The prefetched table holds the index argument's word. -/
theorem table (j : S1.Idx) (i : Elt F .i32)
    (hi : ∀ c : Dev nD, (m ((c : Thread nD τ).loc main_arg4) : Vec F S_ .i32) = fun _ => i) :
    (tbl m 0 : Vec F S1 .i32) j = i := by
  show (V m 0 main_v0 : Vec F S1 .i32) j = i
  entry_read
  show broadcastInDim S1 ![] bcast_S_S1 (m (((0 : Dev nD) : Thread nD τ).loc main_arg4) : Vec F S_ .i32) j = i
  rw [hi 0]
  rfl

end AnyFloat

variable (m : (ℓ : Loc nD τ sig) → Buf (Elt Ideal) ℓ)

/-- The encoder's formula on the arguments, as contents of the result array. -/
def encoded (c : Dev nD) (k : Fin 8) : Vec Ideal S4096x2048 .f32 := fun j =>
  encode (m ((c : Thread nD τ).loc main_arg0)) (m ((c : Thread nD τ).loc main_arg1))
    (m ((c : Thread nD τ).loc main_arg2)) (m ((c : Thread nD τ).loc main_arg3)) k (j 0) (j 1)

/-- The block point `t` stores is the encoder's formula on the block's rows. -/
theorem block_apply (hO : Ok m) (c : Dev nD) (k : Fin 8) (t : Fin grid0.N) (r : Fin 512) (s : Fin 2048) :
    k0_pay1 (F := Ideal) (BitVec.ofNat 32 k.val) (iblk m hO c 0 t : Vec Ideal S512x8 .f32) (iblk m hO c 1 t : Vec Ideal S512x2048 .f32)
      (iblk m hO c 2 t : Vec Ideal S2048x2048 .f32) (iblk m hO c 3 t : Vec Ideal S2048 .f32) (ix2 r s)
      = encoded m c k (ix2 (row t r) s) := by
  refine (pay_apply k _ _ _ _ r s).trans ?_
  rw [mask_block, bias_block]
  simp only [x_block, wt_block]
  rfl

/-- What point `t` leaves in the result's staging buffer is the body's stored block of the point's input blocks. -/
theorem outsAt_eq (hO : Ok m) (c : Dev nD) (k : Fin 8) (t : Fin grid0.N)
    (hi : ∀ c : Dev nD, (m ((c : Thread nD τ).loc main_arg4) : Vec Ideal S_ .i32) = fun _ => BitVec.ofNat 32 k.val) :
    outsAt0 m hO c t = k0_pay1 (F := Ideal) (BitVec.ofNat 32 k.val) (iblk m hO c 0 t : Vec Ideal S512x8 .f32)
      (iblk m hO c 1 t : Vec Ideal S512x2048 .f32) (iblk m hO c 2 t : Vec Ideal S2048x2048 .f32) (iblk m hO c 3 t : Vec Ideal S2048 .f32) := by
  unfold outsAt0
  exact out_eq c _ _ _ _ _ _ _ _ _ _ _ _ _ _ _ _ _ fun j => table m j _ hi

/-- The element `y` that point `t` leaves in the result's staging buffer is the encoder's formula at the array's element
    it is written back to. -/
theorem stored (hO : Ok m) (c : Dev nD) (k : Fin 8) (t : Fin grid0.N) (y : S512x2048.Idx)
    (hi : ∀ c : Dev nD, (m ((c : Thread nD τ).loc main_arg4) : Vec Ideal S_ .i32) = fun _ => BitVec.ofNat 32 k.val) :
    outsAt0 m hO c t y = encoded m c k (ix2 (row t (y 0)) (y 1)) := by
  have hy : y = ix2 (y 0) (y 1) := funext (Fin.forall_fin_two.mpr ⟨rfl, rfl⟩)
  rw [outsAt_eq m hO c k t hi]
  exact (congrArg _ hy).trans (block_apply m hO c k t (y 0) (y 1))

/-- The result array after the run is the encoder's formula of the arguments, element by element. -/
theorem final (hO : Ok m) (c : Dev nD) (k : Fin 8)
    (hi : ∀ c : Dev nD, (m ((c : Thread nD τ).loc main_arg4) : Vec Ideal S_ .i32) = fun _ => BitVec.ofNat 32 k.val) :
    (dats m hO 0 c).arrAt 4 (cfgM m hO).N = encoded m c k := by
  refine (dats m hO 0 c).arrAt_eq_of_covers 4 _ (covers_out m hO) fun t hf y => ?_
  have h2 := congrArg (encoded m c k) (out_emb m hO t y)
  rw [after0_4]
  refine Eq.trans ?_ h2.symm
  clear h2
  have h := stored m hO c k t y hi
  generalize outsAt0 m hO c t = o at h
  exact h

end Cert.KernelIdeal.Encoder

end
-- ==== Proof.RefRun.lean ====
/-
  The reference's run: it ends with its result array at one composed term of the arguments, the arguments
  unchanged.
-/
module

public import proofs.«01_k».proof.Proof.Gen.ReferenceIdeal
public import Idealize.ShloMosaic.Lib.StableHlo.RunHlo
public import Idealize.ShloMosaic.Lib.StableHlo.RunClose

@[expose] public section

set_option maxRecDepth 16384

noncomputable section

namespace Cert.ReferenceIdeal.Encoder

open Cert.ReferenceIdeal Cert.ReferenceIdeal.Gen
open Idealize.ShloMosaic Idealize.ShloMosaic.TcCoe Idealize.ShloMosaic.StableHlo Idealize.SL.Sem

variable {F : FTy → Type} [FloatOps F]

/-- A start of the reference's slice: a negative index counts from the end of the axis, of `n` elements. -/
def wrap (n : BitVec 32) (i : IVec S_ 32) : IVec S_ 32 :=
  select (cmpi .slt i (constantI S_ 32 0#32)) (addi i (constantI S_ 32 n)) i

/-- The mask's column the reference slices out, from row 0 on, at the index `i`. -/
def column (mask : FVec F S4096x8 .f32) (i : IVec S_ 32) : FVec F S4096x1 .f32 :=
  Host.dynamicSlice S4096x1 mask
    (fun a => ((![wrap 4096#32 (constantI S_ 32 0#32), wrap 8#32 i] : Fin 2 → IVec S_ 32) a (Shape.Idx.first h_S_)).toInt)
    sliceFits_S4096x8_S4096x1

/-- The rows kept: those whose mask, in the column, exceeds one half. -/
def keep (col : FVec F S4096x1 .f32) : IVec S4096 1 :=
  cmpf .ogt (shapeCast _ col shapeCasts_S4096x1_S4096) (broadcastInDim S4096 ![] bcast_S_S4096 (constant S_ .f32 0x3F000000#32))

/-- The linear layer `x Wᵀ + b`. -/
def layer (x : FVec F S4096x2048 .f32) (wt : FVec F S2048x2048 .f32) (b : FVec F S2048 .f32) : FVec F S4096x2048 .f32 :=
  addf (Host.dotGeneral dot_S4096x2048_S2048x2048_S4096x2048_1_0_0_1_n_n none x
      (transpose S2048x2048 [1, 0] wt transposes_S2048x2048_S2048x2048_1_0))
    (broadcastInDim S4096x2048 ![0, 1] bcast_S1x2048_S4096x2048_0_1 (broadcastInDim S1x2048 ![1] bcast_S2048_S1x2048_1 b))

/-- The reference's result, as a term of its arguments. -/
def result (x : FVec F S4096x2048 .f32) (mask : FVec F S4096x8 .f32) (wt : FVec F S2048x2048 .f32) (b : FVec F S2048 .f32)
    (i : IVec S_ 32) : FVec F S4096x2048 .f32 :=
  select (broadcastInDim S4096x2048 ![0, 1] bcast_S4096x1_S4096x2048_0_1
      (broadcastInDim S4096x1 ![0] bcast_S4096_S4096x1_0 (keep (column mask i))))
    (layer x wt b) (broadcastInDim S4096x2048 ![] bcast_S_S4096x2048 (constant S_ .f32 0x00000000#32))

/-- From any memory with zero counters the reference ends with `result` of its arguments, and the arguments unchanged. -/
theorem run (m : (ℓ : Loc nD τ sig) → Buf (Elt F) ℓ) (g : Dev nD → PrngReg) :
    θ_run (defs (F := F)) (onTc (τ := τ) (main (F := F))) ⟨m, fun _ => 0, g⟩ fun r => ∀ c : Dev nD,
      r.2.mem ((c.tc : Thread nD τ).loc main_v17)
        = result (m ((c.tc : Thread nD τ).loc main_arg0)) (m ((c.tc : Thread nD τ).loc main_arg1))
            (m ((c.tc : Thread nD τ).loc main_arg2)) (m ((c.tc : Thread nD τ).loc main_arg3)) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) := by
  refine θ_run_mono (run_hlo _ _ (by hlo_seq) (by decide) (by decide) (by simp)
    (by intro _ h; (repeat (cases h with | head => rfl | tail _ h => ?_)); exact nomatch h) m g) fun r h c => ?_
  refine ⟨(h c main_v17).trans ?_, (h c main_arg0).trans ?_, (h c main_arg1).trans ?_, (h c main_arg2).trans ?_,
    (h c main_arg3).trans ?_, (h c main_arg4).trans ?_⟩
  · after_results_simp_entrywise
    simp only [TRef.ofBuf_toBuf, TRef.ofBuf, TRef.toBuf, cast_eq]
    rfl
  all_goals after_results_simp
  all_goals rfl

end Cert.ReferenceIdeal.Encoder

end
-- ==== Proof.RefValue.lean ====
/-
  What the reference computes: its composed term, at an element, is the encoder's formula.
-/
module

public import proofs.«01_k».proof.Proof.Encode
public import proofs.«01_k».proof.Proof.RefRun
public import Idealize.ShloMosaic.Lib.Pointwise
public import Idealize.ShloMosaic.Lib.DynamicIndex

@[expose] public section

set_option maxRecDepth 16384

noncomputable section

namespace Cert.ReferenceIdeal.Encoder

open Cert.ReferenceIdeal Cert.ReferenceIdeal.Gen Cert.Encode
open Idealize.ShloMosaic

/-- One column at `k < 8`, all 4096 rows of it, lies inside the mask. -/
theorem column_slices (k : Fin 8) : S4096x8.Slices ![0, k.val] S4096x1 :=
  ⟨rfl, Fin.forall_fin_two.mpr ⟨by show 0 + 4096 ≤ 4096; omega, by have := k.isLt; show k.val + 1 ≤ 8; omega⟩⟩

/-- The column sliced out at the index `k` is the mask at `k`. The start is in range, so neither the wrap of a negative
    index nor the slice's clamp changes it. -/
theorem column_apply (mask : FVec Ideal S4096x8 .f32) (k : Fin 8) (j : S4096x1.Idx) :
    column mask (fun _ => BitVec.ofNat 32 k.val) j = mask (ix2 (j 0) k) := by
  have hk : ∀ i, (wrap 8#32 (fun _ => BitVec.ofNat 32 k.val) i).toInt = (k.val : Int) := fun i =>
    toInt_wrap_ofNat k.val (by have := k.isLt; omega)
  have h0 : ∀ i, (wrap 4096#32 (constantI S_ 32 0#32) i).toInt = ((0 : ℕ) : Int) := fun i =>
    toInt_wrap_ofNat 0 (by decide)
  unfold column
  rw [Host.dynamicSlice_eq_extractStridedSlice S4096x1 mask _ ![0, k.val] _ (column_slices k)
    (Fin.forall_fin_two.mpr ⟨h0 (Shape.Idx.first h_S_), hk (Shape.Idx.first h_S_)⟩)]
  pointwise

/-- The reference's result at an element is the encoder's formula there. -/
theorem result_apply (x : FVec Ideal S4096x2048 .f32) (mask : FVec Ideal S4096x8 .f32) (wt : FVec Ideal S2048x2048 .f32)
    (b : FVec Ideal S2048 .f32) (k : Fin 8) (j : S4096x2048.Idx) :
    result x mask wt b (fun _ => BitVec.ofNat 32 k.val) j = encode x mask wt b k (j 0) (j 1) := by
  unfold encode
  have hcol := column_apply mask k
  unfold result keep layer
  generalize column mask (fun _ => BitVec.ofNat 32 k.val) = col at hcol
  pointwise
  rw [hcol]
  rfl

end Cert.ReferenceIdeal.Encoder

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Blocks
public import proofs.«01_k».proof.Proof.RefValue
public import Idealize.ShloMosaic.Adequacy
public import Idealize.ShloMosaic.Init
public import Idealize.ShloMosaic.Lib.Claim

@[expose] public section

noncomputable section

-- The frame claims also say that every semaphore counter ends at zero.

namespace Cert.Proof

open Idealize.ShloMosaic Idealize.SL.Sem

/-- The reference terminates with its arguments unchanged and every counter at zero: it declares no semaphore. -/
theorem reference_frame : Cert.quiescent_ReferenceIdeal (hReferenceIdeal := Cert.ReferenceIdeal.Gen.facts) := fun m g _ =>
  θ_run_mono (Cert.ReferenceIdeal.Encoder.run m g) fun r h =>
    ⟨fun c => (h c).2, sem_eq_zero_of_no_sems (by decide) _⟩

/-- The precondition, over the launch memory: every device's index is the word of one number below eight. -/
theorem index_of_pre [Cert.Pre_index_in_range.Facts]
    (m : (ℓ : Loc Cert.KernelIdeal.nD Cert.KernelIdeal.τ Cert.KernelIdeal.sig) → Buf (Elt Ideal) ℓ)
    (h : Cert.Pre_KernelIdeal_index_in_range m) :
    ∃ k : Fin 8, ∀ c : Dev Cert.KernelIdeal.nD,
      (m ((c.tc : Thread Cert.KernelIdeal.nD Cert.KernelIdeal.τ).loc Cert.KernelIdeal.main_arg4) : Vec Ideal Cert.KernelIdeal.S_ .i32)
        = fun _ => BitVec.ofNat 32 k.val := by
  obtain ⟨k, hk⟩ := Cert.Encode.index_of_pre _ _ _ _ _ (h (0 : Fin 1))
  refine ⟨k, fun c => ?_⟩
  obtain rfl : c = (0 : Fin 1) := Subsingleton.elim (α := Fin 1) _ _
  exact hk

/-- The kernel and the reference, from equal arguments with the index in range, end with equal results. -/
theorem algebraic [Cert.Pre_index_in_range.Facts] :
    Cert.algebraic_KernelIdeal_ReferenceIdeal_pre_index_in_range (hKernelIdeal := Cert.KernelIdeal.Gen.facts)
      (hReferenceIdeal := Cert.ReferenceIdeal.Gen.facts) := by
  intro m g m' g' hpre hagree
  obtain ⟨k, hk⟩ := index_of_pre m hpre
  refine ⟨fun c => Cert.KernelIdeal.Encoder.encoded m c k, ?_, ?_⟩
  · refine θ_run_mono (θ_run_and (Cert.KernelIdeal.Gen.run_main m g trivial) (Cert.KernelIdeal.Gen.unchanged m g trivial)) fun r h c => ?_
    exact ⟨((h.1 c).1 4).trans (Cert.KernelIdeal.Encoder.final m trivial c k hk), h.2 c⟩
  · refine θ_run_mono (Cert.ReferenceIdeal.Encoder.run m' g') fun r h c => ⟨(h c).1.trans ?_, (h c).2⟩
    obtain ⟨e0, e1, e2, e3, e4⟩ := hagree c
    rw [e0, e1, e2, e3, e4, hk c]
    exact funext fun j => Cert.ReferenceIdeal.Encoder.result_apply _ _ _ _ k j

/-- Everything claimed: the frames, that the ideal reading is the kernel's own text, and the equal results. -/
theorem claim : Cert.Claim := ⟨Cert.Kernel.Gen.facts, Cert.KernelIdeal.Gen.facts, Cert.ReferenceIdeal.Gen.facts, ⟨⟩,
  fun m g _ => Cert.Kernel.Gen.frame m g trivial, fun m g _ => Cert.KernelIdeal.Gen.frame m g trivial,
  fun m g _ => Cert.KernelIdeal.Gen.frame m g trivial, reference_frame, fun m g _ => reference_frame m g trivial,
  trivial, @algebraic ⟨⟩⟩

end Cert.Proof

end
